-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S512x112 Cert.KernelIdeal.S256x112
  ∧ IdealRules.bf16_pair.PackStatement Cert.KernelIdeal.S112x256
  ∧ IdealRules.bf16_pair.Statement Cert.KernelIdeal.S224x256 Cert.KernelIdeal.S112x256
  ∧ IdealRules.bf16_pair.Statement Cert.KernelIdeal.S112x256 Cert.KernelIdeal.S56x256
  ∧ IdealRules.bf16_pair.Statement Cert.KernelIdeal.S256x256 Cert.KernelIdeal.S128x256
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S256x512 Cert.KernelIdeal.S128x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x7168 : Shape := ⟨3, ![256, 1, 7168]⟩
abbrev S7168x3584 : Shape := ⟨2, ![7168, 3584]⟩
abbrev S7168x112 : Shape := ⟨2, ![7168, 112]⟩
abbrev S7168x56 : Shape := ⟨2, ![7168, 56]⟩
abbrev S256x7168 : Shape := ⟨2, ![256, 7168]⟩
abbrev S7168x256 : Shape := ⟨2, ![7168, 256]⟩
abbrev S512x112 : Shape := ⟨2, ![512, 112]⟩
abbrev S512x56 : Shape := ⟨2, ![512, 56]⟩
abbrev S256x512 : Shape := ⟨2, ![256, 512]⟩
abbrev S4x224x256 : Shape := ⟨3, ![4, 224, 256]⟩
abbrev S256x112 : Shape := ⟨2, ![256, 112]⟩
abbrev S112x256 : Shape := ⟨2, ![112, 256]⟩
abbrev S224x256 : Shape := ⟨2, ![224, 256]⟩
abbrev S1x224x256 : Shape := ⟨3, ![1, 224, 256]⟩
abbrev S256x56 : Shape := ⟨2, ![256, 56]⟩
abbrev S56x256 : Shape := ⟨2, ![56, 256]⟩
abbrev S1x112x256 : Shape := ⟨3, ![1, 112, 256]⟩
abbrev S64x256 : Shape := ⟨2, ![64, 256]⟩
abbrev S16x256 : Shape := ⟨2, ![16, 256]⟩
abbrev S1x2x256 : Shape := ⟨3, ![1, 2, 256]⟩
abbrev S2x256 : Shape := ⟨2, ![2, 256]⟩
abbrev S8x2x256 : Shape := ⟨3, ![8, 2, 256]⟩
abbrev S4x16x256 : Shape := ⟨3, ![4, 16, 256]⟩
abbrev S1x16x256 : Shape := ⟨3, ![1, 16, 256]⟩
abbrev S256x256 : Shape := ⟨2, ![256, 256]⟩
abbrev S128x256 : Shape := ⟨2, ![128, 256]⟩
abbrev S128x128 : Shape := ⟨2, ![128, 128]⟩
abbrev S128x128x1 : Shape := ⟨3, ![128, 128, 1]⟩
abbrev S128x512 : Shape := ⟨2, ![128, 512]⟩

abbrev nBuf : Space → Nat
  | .hbm => 6
  | .vmem => 10
  | .smem => 0
  | _ => 0

abbrev bufTy : (tb : Table) → Fin (tcTables nBuf tb) → BufTy
  | .hbm, ⟨0, _⟩ => ⟨S256x1x7168, .bf16⟩
  | .hbm, ⟨1, _⟩ => ⟨S7168x3584, .i8⟩
  | .hbm, ⟨2, _⟩ => ⟨S7168x112, .bf16⟩
  | .hbm, ⟨3, _⟩ => ⟨S7168x56, .i8⟩
  | .hbm, ⟨4, _⟩ => ⟨S256x7168, .bf16⟩
  | .hbm, ⟨5, _⟩ => ⟨S256x7168, .bf16⟩
  | .local _ .vmem, ⟨0, _⟩ => ⟨S256x7168, .bf16⟩
  | .local _ .vmem, ⟨1, _⟩ => ⟨S7168x256, .i8⟩
  | .local _ .vmem, ⟨2, _⟩ => ⟨S7168x256, .i8⟩
  | .local _ .vmem, ⟨3, _⟩ => ⟨S512x112, .bf16⟩
  | .local _ .vmem, ⟨4, _⟩ => ⟨S512x112, .bf16⟩
  | .local _ .vmem, ⟨5, _⟩ => ⟨S512x56, .i8⟩
  | .local _ .vmem, ⟨6, _⟩ => ⟨S512x56, .i8⟩
  | .local _ .vmem, ⟨7, _⟩ => ⟨S256x512, .bf16⟩
  | .local _ .vmem, ⟨8, _⟩ => ⟨S256x512, .bf16⟩
  | .local _ .vmem, ⟨9, _⟩ => ⟨S4x224x256, .bf16⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x112 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x56 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S256x128 : Shape := ⟨2, ![256, 128]⟩
variable {F : FTy → Type} [FloatOps F]
-- ==== ReferenceIdeal.lean ====
abbrev S256x1x7168 : Shape := ⟨3, ![256, 1, 7168]⟩
abbrev S7168x3584 : Shape := ⟨2, ![7168, 3584]⟩
abbrev S7168x112 : Shape := ⟨2, ![7168, 112]⟩
abbrev S7168x56 : Shape := ⟨2, ![7168, 56]⟩
abbrev S_ : Shape := ⟨0, ![]⟩
abbrev S7168x56x1 : Shape := ⟨3, ![7168, 56, 1]⟩
abbrev S7168x56x2 : Shape := ⟨3, ![7168, 56, 2]⟩
abbrev S3584x112 : Shape := ⟨2, ![3584, 112]⟩
abbrev S112x64x3584 : Shape := ⟨3, ![112, 64, 3584]⟩
abbrev S112x3584 : Shape := ⟨2, ![112, 3584]⟩
abbrev S112x1x3584 : Shape := ⟨3, ![112, 1, 3584]⟩
abbrev S256x1x3584 : Shape := ⟨3, ![256, 1, 3584]⟩
abbrev S256x1x3584x1 : Shape := ⟨4, ![256, 1, 3584, 1]⟩
abbrev S256x1x3584x2 : Shape := ⟨4, ![256, 1, 3584, 2]⟩
abbrev S256x7168 : Shape := ⟨2, ![256, 7168]⟩

abbrev nBuf : Space → Nat
  | .hbm => 63
  | .vmem => 0
  | .smem => 0
  | _ => 0

abbrev bufTy : (tb : Table) → Fin (tcTables nBuf tb) → BufTy
  | .hbm, ⟨0, _⟩ => ⟨S256x1x7168, .bf16⟩
  | .hbm, ⟨1, _⟩ => ⟨S7168x3584, .i8⟩
  | .hbm, ⟨2, _⟩ => ⟨S7168x112, .bf16⟩
  | .hbm, ⟨3, _⟩ => ⟨S7168x56, .i8⟩
  | .hbm, ⟨4, _⟩ => ⟨S7168x3584, .i32⟩
  | .hbm, ⟨5, _⟩ => ⟨S_, .i32⟩
  | .hbm, ⟨6, _⟩ => ⟨S7168x3584, .i32⟩
  | .hbm, ⟨7, _⟩ => ⟨S7168x3584, .i32⟩
  | .hbm, ⟨8, _⟩ => ⟨S_, .i32⟩
  | .hbm, ⟨9, _⟩ => ⟨S7168x3584, .i32⟩
  | .hbm, ⟨10, _⟩ => ⟨S7168x3584, .i32⟩
  | .hbm, ⟨11, _⟩ => ⟨S_, .i32⟩
  | .hbm, ⟨12, _⟩ => ⟨S7168x3584, .i32⟩
  | .hbm, ⟨13, _⟩ => ⟨S7168x3584, .i32⟩
  | .hbm, ⟨14, _⟩ => ⟨S7168x56, .i32⟩
  | .hbm, ⟨15, _⟩ => ⟨S_, .i32⟩
  | .hbm, ⟨16, _⟩ => ⟨S7168x56, .i32⟩
  | .hbm, ⟨17, _⟩ => ⟨S7168x56, .i32⟩
  | .hbm, ⟨18, _⟩ => ⟨S_, .i32⟩
  | .hbm, ⟨19, _⟩ => ⟨S7168x56, .i32⟩
  | .hbm, ⟨20, _⟩ => ⟨S7168x56, .i32⟩
  | .hbm, ⟨21, _⟩ => ⟨S_, .i32⟩
  | .hbm, ⟨22, _⟩ => ⟨S7168x56, .i32⟩
  | .hbm, ⟨23, _⟩ => ⟨S7168x56, .i32⟩
  | .hbm, ⟨24, _⟩ => ⟨S7168x56x1, .i32⟩
  | .hbm, ⟨25, _⟩ => ⟨S7168x56x1, .i32⟩
  | .hbm, ⟨26, _⟩ => ⟨S7168x56x2, .i32⟩
  | .hbm, ⟨27, _⟩ => ⟨S7168x112, .i32⟩
  | .hbm, ⟨28, _⟩ => ⟨S7168x112, .bf16⟩
  | .hbm, ⟨29, _⟩ => ⟨S3584x112, .bf16⟩
  | .hbm, ⟨30, _⟩ => ⟨S3584x112, .bf16⟩
  | .hbm, ⟨31, _⟩ => ⟨S7168x3584, .bf16⟩
  | .hbm, ⟨32, _⟩ => ⟨S112x64x3584, .bf16⟩
  | .hbm, ⟨33, _⟩ => ⟨S112x3584, .bf16⟩
  | .hbm, ⟨34, _⟩ => ⟨S112x1x3584, .bf16⟩
  | .hbm, ⟨35, _⟩ => ⟨S112x3584, .bf16⟩
  | .hbm, ⟨36, _⟩ => ⟨S112x1x3584, .bf16⟩
  | .hbm, ⟨37, _⟩ => ⟨S112x64x3584, .bf16⟩
  | .hbm, ⟨38, _⟩ => ⟨S112x64x3584, .bf16⟩
  | .hbm, ⟨39, _⟩ => ⟨S112x64x3584, .bf16⟩
  | .hbm, ⟨40, _⟩ => ⟨S112x64x3584, .bf16⟩
  | .hbm, ⟨41, _⟩ => ⟨S7168x3584, .bf16⟩
  | .hbm, ⟨42, _⟩ => ⟨S3584x112, .bf16⟩
  | .hbm, ⟨43, _⟩ => ⟨S3584x112, .bf16⟩
  | .hbm, ⟨44, _⟩ => ⟨S7168x3584, .bf16⟩
  | .hbm, ⟨45, _⟩ => ⟨S112x64x3584, .bf16⟩
  | .hbm, ⟨46, _⟩ => ⟨S112x3584, .bf16⟩
  | .hbm, ⟨47, _⟩ => ⟨S112x1x3584, .bf16⟩
  | .hbm, ⟨48, _⟩ => ⟨S112x3584, .bf16⟩
  | .hbm, ⟨49, _⟩ => ⟨S112x1x3584, .bf16⟩
  | .hbm, ⟨50, _⟩ => ⟨S112x64x3584, .bf16⟩
  | .hbm, ⟨51, _⟩ => ⟨S112x64x3584, .bf16⟩
  | .hbm, ⟨52, _⟩ => ⟨S112x64x3584, .bf16⟩
  | .hbm, ⟨53, _⟩ => ⟨S112x64x3584, .bf16⟩
  | .hbm, ⟨54, _⟩ => ⟨S7168x3584, .bf16⟩
  | .hbm, ⟨55, _⟩ => ⟨S256x1x3584, .f32⟩
  | .hbm, ⟨56, _⟩ => ⟨S256x1x3584, .f32⟩
  | .hbm, ⟨57, _⟩ => ⟨S256x1x3584x1, .f32⟩
  | .hbm, ⟨58, _⟩ => ⟨S256x1x3584x1, .f32⟩
  | .hbm, ⟨59, _⟩ => ⟨S256x1x3584x2, .f32⟩
  | .hbm, ⟨60, _⟩ => ⟨S256x1x7168, .f32⟩
  | .hbm, ⟨61, _⟩ => ⟨S256x1x7168, .bf16⟩
  | .hbm, ⟨62, _⟩ => ⟨S256x7168, .bf16⟩
  | _, _ => ⟨S256x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.Frames.lean ====
/- The frames of the three programs, and the statement that the ideal pass changed nothing but what its rule allows. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init
public import Idealize.ShloMosaic.Lib.Bf16Pair

@[expose] public section

namespace Cert.Proof

open Idealize.ShloMosaic Idealize.SL.Sem

/-- The kernel over machine floats terminates without a fault, leaves its arguments as they were, and every counter at zero. -/
theorem frame_kernel : Cert.quiescent_Kernel (hKernel := Cert.Kernel.Gen.facts) :=
  fun m ρ _ => Cert.Kernel.Gen.frame m ρ

/-- The same of the kernel over extended reals. -/
theorem frame_kernelIdeal : Cert.quiescent_KernelIdeal (hKernelIdeal := Cert.KernelIdeal.Gen.facts) :=
  fun m ρ _ => Cert.KernelIdeal.Gen.frame m ρ

/-- The same of the reference over extended reals: its run is a list of host operations, and it declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open Cert.KernelIdeal in
/-- Every rewrite of the ideal pass reads or packs a 32-bit word of two bf16 values, half by half. -/
theorem preserves : Cert.preserves_Kernel_KernelIdeal :=
  ⟨IdealRules.bf16_pair.statement S512x112 S256x112, IdealRules.bf16_pair.packStatement S112x256,
    IdealRules.bf16_pair.statement S224x256 S112x256, IdealRules.bf16_pair.statement S112x256 S56x256,
    IdealRules.bf16_pair.statement S256x256 S128x256, IdealRules.bf16_pair.statement S256x128 S128x128,
    IdealRules.bf16_pair.packStatement S128x128, IdealRules.bf16_pair.statement S256x512 S128x512⟩

end Cert.Proof
-- ==== Proof.Block.lean ====
/- What one grid point computes, in named steps: the twelve dozen payloads the printed body is cut into are these
   functions of the loads, by definition. -/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem

variable {F : FTy → Type} [FloatOps F]

/-! ## The steps -/

/-- The low nibble of every byte. -/
def lowNib (p : IVec S64x256 8) : IVec S64x256 8 := andi p (broadcast S64x256 15#8)

/-- The high nibble of every byte, four bytes of a column at a time. -/
def highNib (p : IVec S64x256 8) : IVec S64x256 8 :=
  bitcast S64x256 8 (andi (shrui (bitcast S16x256 32 p bitcasts_S64x256_w8_S16x256_w32) (broadcast S16x256 4#32))
    (broadcast S16x256 252645135#32)) bitcasts_S16x256_w32_S64x256_w8

/-- Two equal table rows, repeated to sixteen. -/
def rows16 (r : Vec F S1x2x256 .bf16) : FVec F S16x256 .bf16 :=
  shapeCast S16x256 (broadcastTo S8x2x256 (shapeCast S1x2x256 (shapeCast S1x2x256
    (shapeCast S2x256 r shapeCasts_S1x2x256_S2x256) shapeCasts_S2x256_S1x2x256) shapeCasts_S1x2x256_S1x2x256)
    broadcasts_S1x2x256_S8x2x256) shapeCasts_S8x2x256_S16x256

/-- Sixteen rows, repeated to the sixty-four of a group. -/
def rows64 (r : FVec F S16x256 .bf16) : FVec F S4x16x256 .bf16 :=
  broadcastTo S4x16x256 (shapeCast S1x16x256 r shapeCasts_S16x256_S1x16x256) broadcasts_S1x16x256_S4x16x256

/-- The weights of one group of sixty-four rows: `(code - zero) * scale`. -/
def dequant (c : IVec S64x256 8) (s z : Vec F S1x2x256 .bf16) : FVec F S64x256 .bf16 :=
  shapeCast S64x256 (mulf (subf (shapeCast S4x16x256 (uitofp .bf16 c) shapeCasts_S64x256_S4x16x256) (rows64 (rows16 z)))
    (rows64 (rows16 s))) shapeCasts_S4x16x256_S64x256

/-- One tile of the product: 256 columns of `x` against the weights of four groups. -/
def tileDot (x : Vec F S256x256 .bf16) (w0 w1 w2 w3 : FVec F S64x256 .bf16) : FVec F S256x256 .f32 :=
  matmul dot_S256x256_S256x256_S256x256_1_0_0_1_n_n none (shapeCast S256x256 x shapeCasts_S256x256_S256x256)
    (concatenate S256x256 0 [⟨S64x256, w0⟩, ⟨S64x256, w1⟩, ⟨S64x256, w2⟩, ⟨S64x256, w3⟩]
      concatenates_S64x256_S64x256_S64x256_S64x256_S256x256_d0) (constant S256x256 .f32 0x00000000#32)

/-- The tile `k` of the product of the tiles `X` with the weights `W`, four groups a tile. -/
def tileOf (X : ℕ → Vec F S256x256 .bf16) (W : ℕ → FVec F S64x256 .bf16) (k : ℕ) : FVec F S256x256 .f32 :=
  tileDot (X k) (W (k * 4 + 0)) (W (k * 4 + 1)) (W (k * 4 + 2)) (W (k * 4 + 3))

/-- The running sum of the tiles `0 … k`. -/
def acc (X : ℕ → Vec F S256x256 .bf16) (W : ℕ → FVec F S64x256 .bf16) : ℕ → FVec F S256x256 .f32
  | 0 => tileOf X W 0
  | k + 1 => addf (acc X W k) (tileOf X W (k + 1))

/-! ## The interleave of the two accumulators -/

/-- The lane number. -/
def lane : IVec S128x128 32 := iota .tc S128x128 32 [1] iota_S128x128_d1_w32

/-- Is the lane odd? -/
def laneOdd : IVec S128x128 1 := cmpi .eq (andi lane (broadcast S128x128 1#32)) (broadcast S128x128 1#32)

/-- The source lane: half the lane number, plus `a`. -/
def srcLane (a : BitVec 32) : IVec S128x128 32 := addi (shrsi lane (broadcast S128x128 1#32)) (broadcast S128x128 a)

/-- The source lane with a negative one wrapped, as the gather takes it. -/
def srcWrapped (a : BitVec 32) : IVec S128x128 32 :=
  shapeCast S128x128 (shapeCast S128x128x1
    (select (cmpi .slt (srcLane a) (broadcast S128x128 0#32)) (addi (srcLane a) (broadcast S128x128 128#32)) (srcLane a))
    shapeCasts_S128x128_S128x128x1) shapeCasts_S128x128x1_S128x128

/-- One gathered half of a word. -/
def gathered (a : BitVec 32) (w : FVec F S128x128 .bf16) : FVec F S128x128 .bf16 :=
  truncf .bf16 (dynamicGather 1 (extf .f32 w) (srcWrapped a))

/-- 128 output lanes: the even lanes from `e`, the odd ones from `o`. -/
def lanes (a : BitVec 32) (e o : FVec F S128x128 .bf16) : FVec F S128x128 .bf16 :=
  select laneOdd (gathered a o) (gathered a e)

/-- The left 128 columns. -/
def leftHalf (w : FVec F S128x256 .bf16) : FVec F S128x128 .bf16 :=
  extractStridedSlice S128x128 ![0, 0] w slices_S128x256_o0_0_S128x128

/-- The right 128 columns. -/
def rightHalf (w : FVec F S128x256 .bf16) : FVec F S128x128 .bf16 :=
  extractStridedSlice S128x128 ![0, 128] w slices_S128x256_o0_128_S128x128

/-- 512 columns: those of `e` and of `o` in turn. -/
def weave (e o : FVec F S128x256 .bf16) : FVec F S128x512 .bf16 :=
  concatenate S128x512 1 [⟨S128x128, lanes 0#32 (leftHalf e) (leftHalf o)⟩, ⟨S128x128, lanes 64#32 (leftHalf e) (leftHalf o)⟩,
    ⟨S128x128, lanes 0#32 (rightHalf e) (rightHalf o)⟩, ⟨S128x128, lanes 64#32 (rightHalf e) (rightHalf o)⟩]
    concatenates_S128x128_S128x128_S128x128_S128x128_S128x512_d1

/-- The stored block: the even and the odd accumulator, rounded, their columns in turn. -/
def interleave (e o : FVec F S256x256 .f32) : FVec F S256x512 .bf16 :=
  interleaveRows S256x512
    (weave (rowsOfParity 0 S128x256 (truncf .bf16 e bitsLt_bf16_f32) bitcasts_S256x256_w16_S128x256_w32)
      (rowsOfParity 0 S128x256 (truncf .bf16 o bitsLt_bf16_f32) bitcasts_S256x256_w16_S128x256_w32))
    (weave (rowsOfParity 1 S128x256 (truncf .bf16 e bitsLt_bf16_f32) bitcasts_S256x256_w16_S128x256_w32)
      (rowsOfParity 1 S128x256 (truncf .bf16 o bitsLt_bf16_f32) bitcasts_S256x256_w16_S128x256_w32))
    bitcasts_S256x512_w16_S128x512_w32

/-! ## The loads -/

/-- The 64 rows of packed codes from row `64 g`, `g` reduced below 112. -/
def codeRows (X : Vec F S7168x256 .i8) (g : ℕ) : Vec F S64x256 .i8 :=
  View.ld X (Rect.unit (s := S7168x256) ![64 * (g % 112), 0] S64x256.size (by
    have := Nat.mod_lt g (by decide : 0 < 112)
    intro a; fin_cases a <;> simp <;> omega))

/-- The 256 columns of `x` from column `256 k`, `k` reduced below 28. -/
def xCols (X : Vec F S256x7168 .bf16) (k : ℕ) : Vec F S256x256 .bf16 :=
  View.ld X (Rect.unit (s := S256x7168) ![0, 256 * (k % 28)] S256x256.size (by
    have := Nat.mod_lt k (by decide : 0 < 28)
    intro a; fin_cases a <;> simp <;> omega))

/-- Table `a`'s row pair `g`, `g` reduced below 112. -/
def tabRows (T : Vec F S4x224x256 .bf16) (a : Fin 4) (g : ℕ) : Vec F S1x2x256 .bf16 :=
  View.ld T (Rect.unit (s := S4x224x256) ![a.val, 2 * (g % 112), 0] S1x2x256.size (by
    have := Nat.mod_lt g (by decide : 0 < 112)
    have := a.isLt
    intro a; fin_cases a <;> simp <;> omega))

/-- The weights of group `g` of the even columns. -/
def evenW (W : Vec F S7168x256 .i8) (T : Vec F S4x224x256 .bf16) (g : ℕ) : FVec F S64x256 .bf16 :=
  dequant (lowNib (codeRows W g)) (tabRows T 0 g) (tabRows T 2 (g % 2 * 56 + g / 2))

/-- The weights of group `g` of the odd columns. -/
def oddW (W : Vec F S7168x256 .i8) (T : Vec F S4x224x256 .bf16) (g : ℕ) : FVec F S64x256 .bf16 :=
  dequant (highNib (codeRows W g)) (tabRows T 1 g) (tabRows T 3 (g % 2 * 56 + g / 2))

/-- The block one grid point writes, from its blocks of `x`, of the codes, and its table. -/
def block (X : Vec F S256x7168 .bf16) (W : Vec F S7168x256 .i8) (T : Vec F S4x224x256 .bf16) : FVec F S256x512 .bf16 :=
  interleave (acc (xCols X) (evenW W T) 27) (acc (xCols X) (oddW W T) 27)

end Cert.KernelIdeal.Block
-- ==== Proof.Found.lean ====
/- The one piece the generated run found for the output is the whole block, and what is stored there is `Block.block` of
   the loaded blocks and of the stored table. -/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem

variable {F : FTy → Type} [FloatOps F]

/-- The stores of the run, as the generated run found them: one, of the whole block. -/
theorem found (c : Dev nD) (i : grid0.Coords) (arg1 : Memref sig .tc .vmem S256x7168 .bf16) (harg1 : arg1.IsWhole)
    (arg2 : Memref sig .tc .vmem S7168x256 .i8) (harg2 : arg2.IsWhole)
    (arg3 : Memref sig .tc .vmem S512x112 .bf16) (harg3 : arg3.IsWhole)
    (arg4 : Memref sig .tc .vmem S512x56 .i8) (harg4 : arg4.IsWhole)
    (arg5 : Memref sig .tc .vmem S256x512 .bf16) (harg5 : arg5.IsWhole)
    (arg6 : Memref sig .tc .vmem S4x224x256 .bf16) (harg6 : arg6.IsWhole)
    (x0 : Vec F S256x7168 .bf16) (x1 : Vec F S7168x256 .i8) (x2 : Vec F S512x112 .bf16) (x3 : Vec F S512x56 .i8) :
    (kernelRun0_A c i arg1 harg1 arg2 harg2 arg3 harg3 arg4 harg4 arg5 harg5 arg6 harg6 x0 x1 x2 x3).1
      = [⟨Rect.unit ![0, 0] S256x512.size inb_S256x512_S256x512_0_0,
          block (arg1.view.read (Elt F) (harg1.unread x0)) (arg2.view.read (Elt F) (harg2.unread x1))
            (arg6.view.read (Elt F) (arg6.view.writes (Elt F) arg6.view.junk
              (kernelRun0_A.sl.HS0_6 c arg3 harg3 arg4 harg4 x2 x3)))⟩] := by
  sl_kernel_rfl

end Cert.KernelIdeal.Block
-- ==== Proof.Table.lean ====
/- The table one grid point builds in its scratch: what the six stores hold, in named steps. -/
module

public import proofs.«01_k».proof.Proof.Found
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem

variable {F : FTy → Type} [FloatOps F]

/-- The scales of one parity of output columns, a group a row, each row twice. -/
def scaleTab (p : Fin 2) (s : Vec F S512x112 .bf16) : FVec F S1x224x256 .bf16 :=
  let t : FVec F S112x256 .bf16 := truncf .bf16 (transpose S112x256 [1, 0]
    (extf .f32 (rowsOfParity p S256x112 s bitcasts_S512x112_w16_S256x112_w32) : FVec F S256x112 .f32) transposes_S256x112_p1_0_S112x256)
  shapeCast S1x224x256 (interleaveRows S224x256 t t bitcasts_S224x256_w16_S112x256_w32) shapeCasts_S224x256_S1x224x256

/-- The zero bytes of two neighbouring output columns in one word, transposed. -/
def zeroWords (z : Vec F S512x56 .i8) : IVec S56x256 32 :=
  transpose S56x256 [1, 0] (bitcast S256x56 32 (extui 16 z natLt_8_16 : IVec S512x56 16) bitcasts_S512x56_w16_S256x56_w32)
    transposes_S256x56_p1_0_S56x256

/-- One nibble of each of the two bytes of a word, as two numbers. -/
def nibbles (sh : BitVec 32) (w : IVec S56x256 32) : FVec F S112x256 .bf16 :=
  subf (bitcastToFloat .bf16 (bitcast S112x256 16 (ori (andi (shrui w (broadcast S56x256 sh)) (broadcast S56x256 983055#32))
    (broadcast S56x256 1124090624#32)) bitcasts_S56x256_w32_S112x256_w16))
    (broadcast S112x256 (Scalar.ofBits (F := F) .bf16 0x4300#16))

/-- The zeros of one parity of output columns, one nibble of each byte, each row twice. -/
def zeroTab (p : Fin 2) (sh : BitVec 32) (z : Vec F S512x56 .i8) : FVec F S1x112x256 .bf16 :=
  let t : FVec F S56x256 .bf16 := rowsOfParity p S56x256 (nibbles sh (zeroWords z)) bitcasts_S112x256_w16_S56x256_w32
  shapeCast S1x112x256 (interleaveRows S112x256 t t bitcasts_S112x256_w16_S56x256_w32) shapeCasts_S112x256_S1x112x256

/-- The six stores of the table, last first. -/
def tabPieces (s : Vec F S512x112 .bf16) (z : Vec F S512x56 .i8) : List (View.Piece (Elt F) S4x224x256 .bf16) :=
  [⟨Rect.unit ![3, 112, 0] S1x112x256.size inb_S4x224x256_S1x112x256_3_112_0, zeroTab 1 4#32 z⟩,
    ⟨Rect.unit ![2, 112, 0] S1x112x256.size inb_S4x224x256_S1x112x256_2_112_0, zeroTab 0 4#32 z⟩,
    ⟨Rect.unit ![3, 0, 0] S1x112x256.size inb_S4x224x256_S1x112x256_3_0_0, zeroTab 1 0#32 z⟩,
    ⟨Rect.unit ![2, 0, 0] S1x112x256.size inb_S4x224x256_S1x112x256_2_0_0, zeroTab 0 0#32 z⟩,
    ⟨Rect.unit ![1, 0, 0] S1x224x256.size inb_S4x224x256_S1x224x256_1_0_0, scaleTab 1 s⟩,
    ⟨Rect.unit ![0, 0, 0] S1x224x256.size inb_S4x224x256_S1x224x256_0_0_0, scaleTab 0 s⟩]

/-- The stores the generated run found are these. -/
theorem foundTab (c : Dev nD) (arg3 : Memref sig .tc .vmem S512x112 .bf16) (harg3 : arg3.IsWhole)
    (arg4 : Memref sig .tc .vmem S512x56 .i8) (harg4 : arg4.IsWhole)
    (x2 : Vec F S512x112 .bf16) (x3 : Vec F S512x56 .i8) :
    kernelRun0_A.sl.HS0_6 c arg3 harg3 arg4 harg4 x2 x3
      = tabPieces (View.ld (arg3.view.read (Elt F) (harg3.unread x2)) (Rect.unit ![0, 0] S512x112.size inb_S512x112_S512x112_0_0))
          (View.ld (arg4.view.read (Elt F) (harg4.unread x3)) (Rect.unit ![0, 0] S512x56.size inb_S512x56_S512x56_0_0)) := by
  sl_kernel_rfl

/-- What one grid point writes, as one function of its four input blocks. -/
theorem out_eq (c : Dev nD) (i : grid0.Coords) (arg1 : Memref sig .tc .vmem S256x7168 .bf16) (harg1 : arg1.IsWhole)
    (arg2 : Memref sig .tc .vmem S7168x256 .i8) (harg2 : arg2.IsWhole)
    (arg3 : Memref sig .tc .vmem S512x112 .bf16) (harg3 : arg3.IsWhole)
    (arg4 : Memref sig .tc .vmem S512x56 .i8) (harg4 : arg4.IsWhole)
    (arg5 : Memref sig .tc .vmem S256x512 .bf16) (harg5 : arg5.IsWhole)
    (arg6 : Memref sig .tc .vmem S4x224x256 .bf16) (harg6 : arg6.IsWhole)
    (x0 : Vec F S256x7168 .bf16) (x1 : Vec F S7168x256 .i8) (x2 : Vec F S512x112 .bf16) (x3 : Vec F S512x56 .i8) :
    out0_A_4 c i arg1 harg1 arg2 harg2 arg3 harg3 arg4 harg4 arg5 harg5 arg6 harg6 x0 x1 x2 x3
      = block x0 x1 (View.canon (tabPieces x2 x3)) := by
  unfold out0_A_4
  rw [found, View.read_writes_junk_eq_canon, View.read_writes_junk_eq_canon, foundTab, harg1.read_unread, harg2.read_unread,
    harg3.read_unread, harg4.read_unread, View.ld_unit_zero (S := S512x112) (by decide), View.ld_unit_zero (S := S512x56) (by decide)]
  exact View.canon_unit_zero (by decide) _ _

end Cert.KernelIdeal.Block
-- ==== Proof.Nibble.lean ====
/- Two bytes in one word, a nibble of each read as a number: `0x4300 | n` is the sixteen-bit float `128 + n`. -/
module

public import proofs.«01_k».proof.Proof.Gen.KernelIdeal
public import Idealize.ShloMosaic.Lib.Pointwise

@[expose] public section

noncomputable section

namespace Cert.Nibble

open Idealize.ShloMosaic

/-- The low or the high nibble of a byte. -/
def nib (h : ℕ) (b : BitVec 8) : BitVec 8 := if h = 0 then b &&& 15#8 else b >>> 4

/-- The number a byte stands for. -/
def num (b : BitVec 8) : EReal := ((b.toNat : ℝ) : EReal)

/-- A nibble is below sixteen. -/
theorem nib_lt (h : ℕ) (b : BitVec 8) : (nib h b).toNat < 16 := by
  unfold nib
  split
  · rw [BitVec.toNat_and]
    exact lt_of_le_of_lt Nat.and_le_right (by decide)
  · rw [BitVec.toNat_ushiftRight, Nat.shiftRight_eq_div_pow]
    have := b.isLt
    omega

/-- The sign, the exponent and the fraction of `0x4300 | n`. -/
theorem fields : ∀ n : Fin 16,
    (((BitVec.ofNat 8 n.val).setWidth 16 ||| 0x4300#16).extractLsb' (8 + 7) 1 == 1#1) = false
    ∧ (((BitVec.ofNat 8 n.val).setWidth 16 ||| 0x4300#16).extractLsb' 7 8).toNat = 134
    ∧ (((BitVec.ofNat 8 n.val).setWidth 16 ||| 0x4300#16).extractLsb' 0 7).toNat = n.val := by decide

/-- `0x4300 | n` as a sixteen-bit float is `128 + n`, for a nibble `n`. -/
theorem ofBits_or (b : BitVec 8) (hb : b.toNat < 16) :
    Ideal.ofBits .bf16 (b.setWidth 16 ||| 0x4300#16) = ((128 + b.toNat : ℝ) : EReal) := by
  obtain ⟨n, rfl⟩ : ∃ n : Fin 16, b = BitVec.ofNat 8 n.val :=
    ⟨⟨b.toNat, hb⟩, by simp⟩
  obtain ⟨h1, h2, h3⟩ := fields n
  show Ideal.ieee 8 7 _ = _
  unfold Ideal.ieee
  dsimp only
  rw [h1, h2, h3]
  have hn : (BitVec.ofNat 8 n.val).toNat = n.val := by
    rw [BitVec.toNat_ofNat, Nat.mod_eq_of_lt (by omega)]
  rw [hn]
  norm_num

/-- So taking `128.0` away leaves the nibble. -/
theorem ofBits_or_sub (b : BitVec 8) (hb : b.toNat < 16) :
    (Ideal.ofBits .bf16 (b.setWidth 16 ||| 0x4300#16) - Ideal.ofBits .bf16 0x4300#16 : EReal) = num b := by
  have h0 := ofBits_or 0#8 (by decide)
  rw [show ((0#8 : BitVec 8).setWidth 16 ||| 0x4300#16) = 0x4300#16 from by decide] at h0
  rw [ofBits_or b hb, h0, num, ← EReal.coe_sub]
  congr 1
  simp

/-- Two bytes, each widened to sixteen bits, in one word. -/
def word (hi lo : BitVec 8) : BitVec 32 := hi.setWidth 16 ++ lo.setWidth 16

/-- A bit of that word. -/
theorem word_getElem (hi lo : BitVec 8) (i : ℕ) (h : i < 32) :
    (word hi lo)[i] = if i < 16 then lo.getLsbD i else hi.getLsbD (i - 16) := by
  rw [← BitVec.getLsbD_eq_getElem]
  unfold word
  rw [BitVec.getLsbD_append, BitVec.getLsbD_setWidth, BitVec.getLsbD_setWidth]
  split
  · simp [*]
  · have : i - 16 < 16 := by omega
    simp [this]

/-- Half `k` of the masked word is the nibble of byte `k` under `0x43`: low nibbles. -/
theorem half_low (hi lo : BitVec 8) (k : ℕ) (hk : k < 2) :
    (word hi lo >>> 0 &&& 983055#32 ||| 1124090624#32).extractLsb' (16 * k) 16
      = (nib 0 (if k = 0 then lo else hi)).setWidth 16 ||| 0x4300#16 := by
  apply BitVec.eq_of_getLsbD_eq
  intro i hi
  interval_cases k <;> interval_cases i <;> simp [nib, word_getElem]

/-- … and high nibbles, the word shifted by four. -/
theorem half_high (hi lo : BitVec 8) (k : ℕ) (hk : k < 2) :
    (word hi lo >>> 4 &&& 983055#32 ||| 1124090624#32).extractLsb' (16 * k) 16
      = (nib 1 (if k = 0 then lo else hi)).setWidth 16 ||| 0x4300#16 := by
  apply BitVec.eq_of_getLsbD_eq
  intro i hi
  interval_cases k <;> interval_cases i <;> simp [nib, word_getElem]

end Cert.Nibble
-- ==== Proof.TableAt.lean ====
/- The table one grid point builds, read at an index: rows `2 g` and `2 g + 1` of tables 0 and 1 hold the scales of group
   `g`, of tables 2 and 3 the zeros, those of the even groups first. -/
module

public import proofs.«01_k».proof.Proof.Table
public import proofs.«01_k».proof.Proof.Nibble
public import Idealize.ShloMosaic.Lib.Bf16Pair

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Cert.Nibble

/-- The source of a reinterpreted matrix element: its own column, in row `p`. -/
theorem srcIdx_ix2 {m n m' v w : ℕ} (h : (⟨2, ![m, n]⟩ : Shape).Bitcasts v ⟨2, ![m', n]⟩ w) (a : Fin m') (b : Fin n) (p : ℕ)
    (hp) (hp' : p < m) : h.srcIdx (ix2 a b) p hp = ix2 ⟨p, hp'⟩ b := by
  unfold Shape.Bitcasts.srcIdx
  funext x
  match x with
  | ⟨0, _⟩ => rfl
  | ⟨1, _⟩ => rfl

/-- The scales' table at an index. -/
theorem scaleTab_apply (p : Fin 2) (s : Vec Ideal S512x112 .bf16) (a : Fin 1) (r : Fin 224) (n : Fin 256) :
    scaleTab p s (ix3 a r n) = s (ix2 ⟨2 * n.val + p.val, by omega⟩ ⟨r.val / 2, by omega⟩) := by
  unfold scaleTab
  pointwise
  exact ite_self _

/-- The transposed words of zero bytes at an index. -/
theorem zeroWords_apply (z : IVec S512x56 8) (g : Fin 56) (n : Fin 256) :
    zeroWords (F := Ideal) z (ix2 g n) = word (z (ix2 ⟨2 * n.val + 1, by omega⟩ g)) (z (ix2 ⟨2 * n.val, by omega⟩ g)) := by
  unfold zeroWords
  pointwise
  rw [bitcast_16_32]
  simp only [extui]
  have e (q : Fin 2) (hp) : bitcasts_S512x56_w16_S256x56_w32.srcIdx (ix2 n g) (2 * n.val + q.val) hp = ix2 ⟨2 * n.val + q.val, by omega⟩ g :=
    srcIdx_ix2 _ _ _ _ _ _
  exact congrArg₂ (fun i j => word (z i) (z j)) (e 1 _) (e 0 _)

/-- The halves of words: row `r` is half `r % 2` of word row `r / 2`. -/
theorem halves_apply (w : IVec S56x256 32) (r : Fin 112) (n : Fin 256) :
    bitcast S112x256 16 w bitcasts_S56x256_w32_S112x256_w16 (ix2 r n)
      = (w (ix2 ⟨r.val / 2, by omega⟩ n)).extractLsb' (16 * (r.val % 2)) 16 := by
  rw [bitcast_32_16]
  exact congrArg (fun i => (w i).extractLsb' (16 * (r.val % 2)) 16)
    (srcIdx_ix2 bitcasts_S56x256_w32_S112x256_w16 r n (r.val / 2) _ (by omega))

/-- The two numbers of a word of zero bytes: row `r` is the nibble of byte `r % 2` of word `r / 2`. -/
theorem nibbles_apply (h : Fin 2) (z : IVec S512x56 8) (r : Fin 112) (n : Fin 256) :
    (nibbles (if h = 0 then 0#32 else 4#32) (zeroWords (F := Ideal) z) : FVec Ideal S112x256 .bf16) (ix2 r n)
      = num (nib h.val (z (ix2 ⟨2 * n.val + r.val % 2, by omega⟩ ⟨r.val / 2, by omega⟩))) := by
  unfold nibbles
  pointwise
  rw [halves_apply]
  pointwise
  rw [zeroWords_apply]
  have hk : r.val % 2 < 2 := Nat.mod_lt _ (by decide)
  have hb : (if r.val % 2 = 0 then z (ix2 ⟨2 * n.val, by omega⟩ ⟨r.val / 2, by omega⟩) else z (ix2 ⟨2 * n.val + 1, by omega⟩ ⟨r.val / 2, by omega⟩))
      = z (ix2 ⟨2 * n.val + r.val % 2, by omega⟩ ⟨r.val / 2, by omega⟩) := by
    rcases Nat.mod_two_eq_zero_or_one r.val with e | e <;> simp [e]
  rw [← hb, ← ofBits_or_sub _ (nib_lt _ _)]
  match h with
  | ⟨0, _⟩ => exact congrArg (fun w => Ideal.ofBits .bf16 w - Ideal.ofBits .bf16 0x4300#16) (half_low _ _ _ hk)
  | ⟨1, _⟩ => exact congrArg (fun w => Ideal.ofBits .bf16 w - Ideal.ofBits .bf16 0x4300#16) (half_high _ _ _ hk)

/-- The zeros' table at an index: row `r` holds the nibble of the byte of its pair. -/
theorem zeroTab_apply (p h : Fin 2) (z : IVec S512x56 8) (a : Fin 1) (r : Fin 112) (n : Fin 256) :
    (zeroTab p (if h = 0 then 0#32 else 4#32) z : FVec Ideal S1x112x256 .bf16) (ix3 a r n)
      = num (nib h.val (z (ix2 ⟨2 * n.val + p.val, by omega⟩ ⟨r.val / 2, by omega⟩))) := by
  unfold zeroTab
  pointwise
  rw [ite_self, nibbles_apply]
  have e1 : (2 * (r.val / 2) + p.val) % 2 = p.val := by omega
  have e2 : (2 * (r.val / 2) + p.val) / 2 = r.val / 2 := by omega
  simp only [e1, e2]

/-! ## The table -/

/-- What the table holds at an index. -/
def tabAt (s : Vec Ideal S512x112 .bf16) (z : IVec S512x56 8) (a : Fin 4) (r : Fin 224) (n : Fin 256) : Ideal .bf16 :=
  if h : a.val < 2 then s (ix2 ⟨2 * n.val + a.val, by omega⟩ ⟨r.val / 2, by omega⟩)
  else num (nib (r.val / 112) (z (ix2 ⟨2 * n.val + (a.val - 2), by omega⟩ ⟨r.val % 112 / 2, by omega⟩)))

/-- The six stores cover the table. -/
theorem cover_tab (s : Vec Ideal S512x112 .bf16) (z : IVec S512x56 8) (a : Fin 4) (r : Fin 224) (n : Fin 256) :
    ∃ p ∈ tabPieces (F := Ideal) s z, (ix3 a r n : S4x224x256.Idx) ∈ p.1.set := by
  have key (o : Fin 3 → ℕ) (sz : Fin 3 → ℕ) (inb) (h : (o 0 ≤ a.val ∧ a.val < o 0 + sz 0) ∧ (o 1 ≤ r.val ∧ r.val < o 1 + sz 1)
      ∧ (o 2 ≤ n.val ∧ n.val < o 2 + sz 2)) : (ix3 a r n : S4x224x256.Idx) ∈ (Rect.unit (s := S4x224x256) o sz inb).set := by
    rw [Rect.mem_set_unit]
    intro x
    match x with
    | ⟨0, _⟩ => exact h.1
    | ⟨1, _⟩ => exact h.2.1
    | ⟨2, _⟩ => exact h.2.2
  unfold tabPieces
  have := n.isLt
  have := r.isLt
  simp only [List.mem_cons, List.not_mem_nil, or_false, exists_eq_or_imp, exists_eq_left]
  have ha : a.val = 0 ∨ a.val = 1 ∨ a.val = 2 ∨ a.val = 3 := by omega
  rcases Nat.lt_or_ge r.val 112 with hr | hr <;> rcases ha with ha | ha | ha | ha
  · exact .inr (.inr (.inr (.inr (.inr (key _ _ _ (by simp; omega))))))
  · exact .inr (.inr (.inr (.inr (.inl (key _ _ _ (by simp; omega))))))
  · exact .inr (.inr (.inr (.inl (key _ _ _ (by simp; omega)))))
  · exact .inr (.inr (.inl (key _ _ _ (by simp; omega))))
  · exact .inr (.inr (.inr (.inr (.inr (key _ _ _ (by simp; omega))))))
  · exact .inr (.inr (.inr (.inr (.inl (key _ _ _ (by simp; omega))))))
  · exact .inr (.inl (key _ _ _ (by simp; omega)))
  · exact .inl (key _ _ _ (by simp; omega))

/-- A store of zeros is the table at its place. -/
theorem zeroTab_at (p h : Fin 2) (s : Vec Ideal S512x112 .bf16) (z : IVec S512x56 8) (a : Fin 4) (r : Fin 224) (n : Fin 256)
    (x : S1x112x256.Idx) (h0 : a.val = 2 + p.val) (h1 : r.val = 112 * h.val + (x 1).val) (h2 : n.val = (x 2).val) :
    zeroTab p (if h = 0 then 0#32 else 4#32) z x = tabAt s z a r n := by
  obtain ⟨x0, x1, x2, rfl⟩ : ∃ (x0 : Fin 1) (x1 : Fin 112) (x2 : Fin 256), x = ix3 x0 x1 x2 := ⟨x 0, x 1, x 2, eq_ix3 x⟩
  change r.val = 112 * h.val + x1.val at h1
  obtain rfl : n = x2 := Fin.ext h2
  rw [zeroTab_apply, tabAt, dif_neg (by omega)]
  have e1 : r.val / 112 = h.val := by omega
  have e2 : r.val % 112 = x1.val := by omega
  have e3 : a.val - 2 = p.val := by omega
  simp only [e1, e2, e3]

/-- A store of scales is the table at its place. -/
theorem scaleTab_at (p : Fin 2) (s : Vec Ideal S512x112 .bf16) (z : IVec S512x56 8) (a : Fin 4) (r : Fin 224) (n : Fin 256)
    (x : S1x224x256.Idx) (h0 : a.val = p.val) (h1 : r.val = (x 1).val) (h2 : n.val = (x 2).val) :
    scaleTab p s x = tabAt s z a r n := by
  obtain ⟨x0, x1, x2, rfl⟩ : ∃ (x0 : Fin 1) (x1 : Fin 224) (x2 : Fin 256), x = ix3 x0 x1 x2 := ⟨x 0, x 1, x 2, eq_ix3 x⟩
  obtain rfl : r = x1 := Fin.ext h1
  obtain rfl : n = x2 := Fin.ext h2
  rw [scaleTab_apply, tabAt, dif_pos (by omega)]
  simp only [h0]

/-- The six stores leave that. -/
theorem canon_tab (s : Vec Ideal S512x112 .bf16) (z : IVec S512x56 8) (a : Fin 4) (r : Fin 224) (n : Fin 256) :
    View.canon (tabPieces (F := Ideal) s z) (ix3 a r n) = tabAt s z a r n := by
  have hc := cover_tab s z a r n
  unfold tabPieces at hc ⊢
  canon_tiles x h using hc
  · exact zeroTab_at 1 1 s z a r n x (by change a.val = _ at h0; omega) h1 h2
  · exact zeroTab_at 0 1 s z a r n x (by change a.val = _ at h0; omega) h1 h2
  · exact zeroTab_at 1 0 s z a r n x (by change a.val = _ at h0; omega) (h1.trans (by omega)) h2
  · exact zeroTab_at 0 0 s z a r n x (by change a.val = _ at h0; omega) (h1.trans (by omega)) h2
  · exact scaleTab_at 1 s z a r n x (by change a.val = _ at h0; omega) h1 h2
  · exact scaleTab_at 0 s z a r n x (by change a.val = _ at h0; omega) h1 h2

end Cert.KernelIdeal.Block
-- ==== Proof.Weight.lean ====
/- The weights of one group of rows, read at an index: `(code - zero) * scale`. -/
module

public import proofs.«01_k».proof.Proof.TableAt

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Cert.Nibble

/-- The low nibbles at an index. -/
theorem lowNib_apply (p : IVec S64x256 8) (r : Fin 64) (n : Fin 256) : lowNib p (ix2 r n) = nib 0 (p (ix2 r n)) := rfl

/-- A bit of four bytes of a column read as one word: word `r` has bytes `4 r … 4 r + 3`. -/
theorem word8_getLsbD (p : IVec S64x256 8) (r : Fin 16) (n : Fin 256) (i : ℕ) (hi : i < 32) :
    (bitcast S16x256 32 p bitcasts_S64x256_w8_S16x256_w32 (ix2 r n)).getLsbD i
      = (p (ix2 ⟨4 * r.val + i / 8, by omega⟩ n)).getLsbD (i % 8) := by
  rw [bitcast_getLsbD _ _ _ _ hi (by decide)]
  have e1 : (S16x256.row (ix2 r n) * 32 + i) / 8 = 4 * r.val + i / 8 := by
    show (r.val * 32 + i) / 8 = _
    omega
  have e2 : (S16x256.row (ix2 r n) * 32 + i) % 8 = i % 8 := by
    show (r.val * 32 + i) % 8 = _
    omega
  rw [e2, Shape.Bitcasts.srcIdx_congr bitcasts_S64x256_w8_S16x256_w32 (ix2 r n) e1 _ (by
    intro a ha
    match a with
    | ⟨0, _⟩ => show 4 * r.val + i / 8 < 64; omega)]
  exact congrArg (fun j => (p j).getLsbD (i % 8)) (srcIdx_ix2 bitcasts_S64x256_w8_S16x256_w32 r n _ _ _)

/-- A bit of a byte of a column of words: byte `r` is byte `r % 4` of word `r / 4`. -/
theorem byte_getLsbD (w : IVec S16x256 32) (r : Fin 64) (n : Fin 256) (i : ℕ) (hi : i < 8) :
    (bitcast S64x256 8 w bitcasts_S16x256_w32_S64x256_w8 (ix2 r n)).getLsbD i
      = (w (ix2 ⟨r.val / 4, by omega⟩ n)).getLsbD (8 * (r.val % 4) + i) := by
  rw [bitcast_getLsbD _ _ _ _ hi (by decide)]
  have e1 : (S64x256.row (ix2 r n) * 8 + i) / 32 = r.val / 4 := by
    show (r.val * 8 + i) / 32 = _
    omega
  have e2 : (S64x256.row (ix2 r n) * 8 + i) % 32 = 8 * (r.val % 4) + i := by
    show (r.val * 8 + i) % 32 = _
    omega
  rw [e2, Shape.Bitcasts.srcIdx_congr bitcasts_S16x256_w32_S64x256_w8 (ix2 r n) e1 _ (by
    intro a ha
    match a with
    | ⟨0, _⟩ => show r.val / 4 < 16; omega)]
  exact congrArg (fun j => (w j).getLsbD (8 * (r.val % 4) + i)) (srcIdx_ix2 bitcasts_S16x256_w32_S64x256_w8 r n _ _ _)

/-- The bits of the mask `0x0F0F0F0F`: the low nibble of every byte. -/
theorem mask_bits : ∀ (k : Fin 4) (i : Fin 8), (252645135#32).getLsbD (8 * k.val + i.val) = decide (i.val < 4) := by decide

/-- The high nibbles at an index. -/
theorem highNib_apply (p : IVec S64x256 8) (r : Fin 64) (n : Fin 256) : highNib p (ix2 r n) = nib 1 (p (ix2 r n)) := by
  apply BitVec.eq_of_getLsbD_eq
  intro i hi
  unfold highNib
  rw [byte_getLsbD _ _ _ _ hi]
  have hm := mask_bits ⟨r.val % 4, by omega⟩ ⟨i, hi⟩
  show ((bitcast S16x256 32 p bitcasts_S64x256_w8_S16x256_w32 (ix2 ⟨r.val / 4, by omega⟩ n) >>> 4) &&& 252645135#32).getLsbD
    (8 * (r.val % 4) + i) = (p (ix2 r n) >>> 4).getLsbD i
  rw [BitVec.getLsbD_and, hm, BitVec.getLsbD_ushiftRight, BitVec.getLsbD_ushiftRight]
  by_cases h4 : i < 4
  · rw [word8_getLsbD _ _ _ _ (by omega)]
    have e1 : (4 + (8 * (r.val % 4) + i)) % 8 = 4 + i := by omega
    have e2 : 4 * (r.val / 4) + (4 + (8 * (r.val % 4) + i)) / 8 = r.val := by omega
    simp only [e1, e2, h4, decide_true, Bool.and_true]
  · simp only [h4, decide_false, Bool.and_false]
    exact (BitVec.getLsbD_of_ge _ _ (by omega)).symm

/-- The weights of a group at an index. -/
theorem dequant_apply (c : IVec S64x256 8) (s z : Vec Ideal S1x2x256 .bf16) (r : Fin 64) (n : Fin 256) :
    dequant (F := Ideal) c s z (ix2 r n)
      = (num (c (ix2 r n)) - z (ix3 0 ⟨r.val % 2, by omega⟩ n)) * s (ix3 0 ⟨r.val % 2, by omega⟩ n) := by
  unfold dequant rows64 rows16
  pointwise
  have e : r.val % 16 % 2 = r.val % 2 := by omega
  simp only [e]
  rfl

/-- The weight at a row and an output column: the code's nibble less the zero, times the scale. -/
def weight (h : ℕ) (W : IVec S7168x256 8) (s : Vec Ideal S512x112 .bf16) (z : IVec S512x56 8) (q : Fin 7168) (n : Fin 256) (l : Fin 512) :
    EReal :=
  (num (nib h (W (ix2 q n))) - num (nib (q.val / 64 % 2) (z (ix2 l ⟨q.val / 64 / 2, by omega⟩)))) * s (ix2 l ⟨q.val / 64, by omega⟩)

/-- The loaded rows of codes at an index. -/
theorem codeRows_apply (W : IVec S7168x256 8) (g : ℕ) (hg : g < 112) (r : Fin 64) (n : Fin 256) :
    codeRows (F := Ideal) W g (ix2 r n) = W (ix2 ⟨64 * g + r.val, by omega⟩ n) := by
  unfold codeRows
  refine View.ld_unit_apply_of (Val := Elt Ideal) (e := .i8) W _ _ _ _ _ fun a => ?_
  match a with
  | ⟨0, _⟩ => show 64 * g + r.val = 64 * (g % 112) + r.val; rw [Nat.mod_eq_of_lt hg]
  | ⟨1, _⟩ => show n.val = 0 + n.val; omega

/-- The loaded rows of the table at an index. -/
theorem tabRows_apply (T : Vec Ideal S4x224x256 .bf16) (a : Fin 4) (g : ℕ) (hg : g < 112) (h : Fin 2) (n : Fin 256) :
    tabRows T a g (ix3 0 h n) = T (ix3 a ⟨2 * g + h.val, by omega⟩ n) := by
  unfold tabRows
  refine View.ld_unit_apply_of (Val := Elt Ideal) (e := .bf16) T _ _ _ _ _ fun x => ?_
  match x with
  | ⟨0, _⟩ => show a.val = a.val + 0; omega
  | ⟨1, _⟩ => show 2 * g + h.val = 2 * (g % 112) + h.val; rw [Nat.mod_eq_of_lt hg]
  | ⟨2, _⟩ => show n.val = 0 + n.val; omega

/-- A scale of the table. -/
theorem tab_scale (s : Vec Ideal S512x112 .bf16) (z : IVec S512x56 8) (p : Fin 2) (a : Fin 4) (ha : a.val = p.val) (g : ℕ) (hg : g < 112)
    (h : Fin 2) (n : Fin 256) :
    tabRows (View.canon (tabPieces (F := Ideal) s z)) a g (ix3 0 h n) = s (ix2 ⟨2 * n.val + p.val, by omega⟩ ⟨g, hg⟩) := by
  rw [tabRows_apply _ _ _ hg, canon_tab, tabAt, dif_pos (by omega)]
  have e1 : (2 * g + h.val) / 2 = g := by omega
  simp only [e1, ha]

/-- A zero of the table: the zeros of group `g` lie at row pair `g % 2 * 56 + g / 2`. -/
theorem tab_zero (s : Vec Ideal S512x112 .bf16) (z : IVec S512x56 8) (p : Fin 2) (a : Fin 4) (ha : a.val = 2 + p.val) (g : ℕ) (hg : g < 112)
    (h : Fin 2) (n : Fin 256) :
    tabRows (View.canon (tabPieces (F := Ideal) s z)) a (g % 2 * 56 + g / 2) (ix3 0 h n)
      = num (nib (g % 2) (z (ix2 ⟨2 * n.val + p.val, by omega⟩ ⟨g / 2, by omega⟩))) := by
  rw [tabRows_apply _ _ _ (by omega), canon_tab, tabAt, dif_neg (by omega)]
  have e1 : (2 * (g % 2 * 56 + g / 2) + h.val) / 112 = g % 2 := by omega
  have e2 : (2 * (g % 2 * 56 + g / 2) + h.val) % 112 / 2 = g / 2 := by omega
  have e3 : a.val - 2 = p.val := by omega
  simp only [e1, e2, e3]

/-- The weights of a group of even columns. -/
theorem evenW_apply (W : IVec S7168x256 8) (s : Vec Ideal S512x112 .bf16) (z : IVec S512x56 8) (g : ℕ) (hg : g < 112) (r : Fin 64)
    (n : Fin 256) :
    evenW (F := Ideal) W (View.canon (tabPieces (F := Ideal) s z)) g (ix2 r n)
      = weight 0 W s z ⟨64 * g + r.val, by omega⟩ n ⟨2 * n.val, by omega⟩ := by
  unfold evenW weight
  rw [dequant_apply, lowNib_apply, codeRows_apply _ _ hg, tab_scale s z 0 0 rfl g hg, tab_zero s z 0 2 rfl g hg]
  have e : (64 * g + r.val) / 64 = g := by omega
  simp only [e]
  rfl

/-- The weights of a group of odd columns. -/
theorem oddW_apply (W : IVec S7168x256 8) (s : Vec Ideal S512x112 .bf16) (z : IVec S512x56 8) (g : ℕ) (hg : g < 112) (r : Fin 64)
    (n : Fin 256) :
    oddW (F := Ideal) W (View.canon (tabPieces (F := Ideal) s z)) g (ix2 r n)
      = weight 1 W s z ⟨64 * g + r.val, by omega⟩ n ⟨2 * n.val + 1, by omega⟩ := by
  unfold oddW weight
  rw [dequant_apply, highNib_apply, codeRows_apply _ _ hg, tab_scale s z 1 1 rfl g hg, tab_zero s z 1 3 rfl g hg]
  have e : (64 * g + r.val) / 64 = g := by omega
  simp only [e]
  rfl

end Cert.KernelIdeal.Block
-- ==== Proof.Weave.lean ====
/- The interleave of the two accumulators, read at an index: output column `l` is column `l / 2` of the even or of the odd
   accumulator, as `l` is even or odd. -/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem

/-- The word arithmetic of a lane: its parity, and its source lane. -/
theorem lane_words : ∀ l : Fin 128,
    IntOp.cmpi .eq (IntOp.andi (BitVec.ofNat 32 l.val) 1#32) 1#32 = (if l.val % 2 = 1 then 1#1 else 0#1)
    ∧ ∀ a : Fin 2, let s := IntOp.addi (IntOp.shrsi .vector (BitVec.ofNat 32 l.val) 1#32) (BitVec.ofNat 32 (64 * a.val))
      (Scalar.select (IntOp.cmpi .slt s 0#32) (IntOp.addi s 128#32) s).toNat % 128 = l.val / 2 + 64 * a.val := by
  decide +kernel

/-- 128 output lanes at an index. -/
theorem lanes_apply (a : Fin 2) (e o : FVec Ideal S128x128 .bf16) (r l : Fin 128) :
    lanes (BitVec.ofNat 32 (64 * a.val)) e o (ix2 r l)
      = if l.val % 2 = 1 then o (ix2 r ⟨l.val / 2 + 64 * a.val, by omega⟩) else e (ix2 r ⟨l.val / 2 + 64 * a.val, by omega⟩) := by
  unfold lanes laneOdd gathered srcWrapped srcLane lane
  pointwise
  obtain ⟨h1, h2⟩ := lane_words l
  have h2 := h2 a
  dsimp only at h2
  simp only [h1, h2]
  by_cases h : l.val % 2 = 1
  · rw [if_pos h, if_pos h]; rfl
  · rw [if_neg h, if_neg h]; rfl

/-- Four pieces of 128 lanes make the 512 output columns. -/
theorem weave_apply (e o : FVec Ideal S128x256 .bf16) (r : Fin 128) (l : Fin 512) :
    weave e o (ix2 r l) = if l.val % 2 = 1 then o (ix2 r ⟨l.val / 2, by omega⟩) else e (ix2 r ⟨l.val / 2, by omega⟩) := by
  have key (a : Fin 2) (b : Fin 2) (e' o' : FVec Ideal S128x128 .bf16)
      (he : ∀ c : Fin 128, e' (ix2 r c) = e (ix2 r ⟨128 * b.val + c.val, by omega⟩))
      (ho : ∀ c : Fin 128, o' (ix2 r c) = o (ix2 r ⟨128 * b.val + c.val, by omega⟩))
      (v : Fin 128) (hv : l.val = 256 * b.val + 128 * a.val + v.val) :
      lanes (BitVec.ofNat 32 (64 * a.val)) e' o' (ix2 r v)
        = if l.val % 2 = 1 then o (ix2 r ⟨l.val / 2, by omega⟩) else e (ix2 r ⟨l.val / 2, by omega⟩) := by
    rw [lanes_apply, he, ho]
    have e1 : v.val % 2 = l.val % 2 := by omega
    have e2 : 128 * b.val + (v.val / 2 + 64 * a.val) = l.val / 2 := by omega
    simp only [e1, e2]
  have left (x : FVec Ideal S128x256 .bf16) (c : Fin 128) : leftHalf x (ix2 r c) = x (ix2 r ⟨128 * (0 : Fin 2).val + c.val, by simp; omega⟩) := by
    unfold leftHalf; pointwise
  have right (x : FVec Ideal S128x256 .bf16) (c : Fin 128) : rightHalf x (ix2 r c) = x (ix2 r ⟨128 * (1 : Fin 2).val + c.val, by simp; omega⟩) := by
    unfold rightHalf; pointwise
  unfold weave
  pointwise
  have hl := l.isLt
  split
  · exact key 0 0 _ _ (left e) (left o) _ (by simp)
  split
  · exact key 1 0 _ _ (left e) (left o) _ (by simp; omega)
  split
  · exact key 0 1 _ _ (right e) (right o) _ (by simp; omega)
  · exact key 1 1 _ _ (right e) (right o) _ (by simp; omega)

/-- The stored block at an index. -/
theorem interleave_apply (e o : FVec Ideal S256x256 .f32) (m : Fin 256) (l : Fin 512) :
    interleave e o (ix2 m l) = if l.val % 2 = 1 then o (ix2 m ⟨l.val / 2, by omega⟩) else e (ix2 m ⟨l.val / 2, by omega⟩) := by
  have key (p : Fin 2) (hp : m.val % 2 = p.val) :
      weave (rowsOfParity p S128x256 (truncf .bf16 e bitsLt_bf16_f32) bitcasts_S256x256_w16_S128x256_w32)
        (rowsOfParity p S128x256 (truncf .bf16 o bitsLt_bf16_f32) bitcasts_S256x256_w16_S128x256_w32) (ix2 ⟨m.val / 2, by omega⟩ l)
      = if l.val % 2 = 1 then o (ix2 m ⟨l.val / 2, by omega⟩) else e (ix2 m ⟨l.val / 2, by omega⟩) := by
    rw [weave_apply]
    have e1 : 2 * (m.val / 2) + p.val = m.val := by omega
    pointwise
    simp only [e1]
  unfold interleave
  pointwise
  split
  · exact key 0 (by simpa using ‹m.val % 2 = 0›)
  · exact key 1 (by show m.val % 2 = 1; omega)

end Cert.KernelIdeal.Block
-- ==== Proof.Product.lean ====
/- The tiles of the product and their running sum, read at an index: the sum over all 7168 rows. -/
module

public import proofs.«01_k».proof.Proof.Weight
public import proofs.«01_k».proof.Proof.Weave

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Cert.Nibble

/-- One tile of the product at an index. -/
theorem tileOf_apply (X : ℕ → Vec Ideal S256x256 .bf16) (W : ℕ → FVec Ideal S64x256 .bf16) (k : ℕ) (m n : Fin 256) :
    tileOf X W k (ix2 m n)
      = ∑ j : Fin 256, X k (ix2 m j) * W (k * 4 + j.val / 64) (ix2 ⟨j.val % 64, by omega⟩ n) := by
  unfold tileOf tileDot
  pointwise
  refine Finset.sum_congr rfl fun j _ => congrArg (X k (ix2 m j) * ·) ?_
  have hj := j.isLt
  have key (i : ℕ) (r : Fin 64) (h : j.val = 64 * i + r.val) :
      W (k * 4 + i) (ix2 r n) = W (k * 4 + j.val / 64) (ix2 ⟨j.val % 64, by omega⟩ n) := by
    have e1 : j.val / 64 = i := by omega
    have e2 : j.val % 64 = r.val := by omega
    simp only [e1, e2]
  split
  · exact key 0 _ (by simp)
  split
  · exact key 1 _ (by simp; omega)
  split
  · exact key 2 _ (by simp; omega)
  · exact key 3 _ (by simp; omega)

/-- The running sum at an index: the sum over all the rows so far. -/
theorem acc_apply (X : ℕ → Vec Ideal S256x256 .bf16) (W : ℕ → FVec Ideal S64x256 .bf16) (k : ℕ) (m n : Fin 256) :
    acc X W k (ix2 m n)
      = ∑ q ∈ Finset.range (256 * (k + 1)), X (q / 256) (ix2 m ⟨q % 256, by omega⟩) * W (q / 64) (ix2 ⟨q % 64, by omega⟩ n) := by
  have tile (k : ℕ) : tileOf X W k (ix2 m n) = ∑ j ∈ Finset.range 256,
      X ((256 * k + j) / 256) (ix2 m ⟨(256 * k + j) % 256, by omega⟩) * W ((256 * k + j) / 64) (ix2 ⟨(256 * k + j) % 64, by omega⟩ n) := by
    rw [tileOf_apply, Finset.sum_range]
    refine Finset.sum_congr rfl fun j _ => ?_
    have e1 : (256 * k + j.val) / 256 = k := by omega
    have e2 : (256 * k + j.val) % 256 = j.val := by omega
    have e3 : (256 * k + j.val) / 64 = k * 4 + j.val / 64 := by omega
    have e4 : (256 * k + j.val) % 64 = j.val % 64 := by omega
    simp only [e1, e2, e3, e4]
  induction k with
  | zero => exact (tile 0).trans (by simp)
  | succ k ih =>
    show acc X W k (ix2 m n) + tileOf X W (k + 1) (ix2 m n) = _
    rw [ih, tile, show 256 * (k + 1 + 1) = 256 * (k + 1) + 256 from by omega, Finset.sum_range_add]

/-- The loaded columns of `x` at an index. -/
theorem xCols_apply (X : Vec Ideal S256x7168 .bf16) (k : ℕ) (hk : k < 28) (m j : Fin 256) :
    xCols X k (ix2 m j) = X (ix2 m ⟨256 * k + j.val, by omega⟩) := by
  unfold xCols
  refine View.ld_unit_apply_of (Val := Elt Ideal) (e := .bf16) X _ _ _ _ _ fun x => ?_
  match x with
  | ⟨0, _⟩ => show m.val = 0 + m.val; omega
  | ⟨1, _⟩ => show 256 * k + j.val = 256 * (k % 28) + j.val; rw [Nat.mod_eq_of_lt hk]

/-- The whole product of the columns of `x` with the weights of 112 groups at an index: one sum over the 7168 rows. -/
theorem acc_all (X : Vec Ideal S256x7168 .bf16) (W : ℕ → FVec Ideal S64x256 .bf16) (m n : Fin 256) :
    acc (xCols X) W 27 (ix2 m n)
      = ∑ q : Fin 7168, X (ix2 m q) * W (q.val / 64) (ix2 ⟨q.val % 64, by omega⟩ n) := by
  rw [acc_apply, Finset.sum_range]
  refine Finset.sum_congr rfl fun q _ => ?_
  have hq : q.val < 7168 := q.isLt
  rw [xCols_apply _ _ (by omega)]
  have e : 256 * (q.val / 256) + q.val % 256 = q.val := by omega
  simp only [e]

/-- An output element of one grid point: the row of `x` against the weights of its column. -/
theorem block_apply (X : Vec Ideal S256x7168 .bf16) (W : IVec S7168x256 8) (s : Vec Ideal S512x112 .bf16) (z : IVec S512x56 8)
    (m : Fin 256) (l : Fin 512) :
    block X W (View.canon (tabPieces (F := Ideal) s z)) (ix2 m l)
      = ∑ q : Fin 7168, X (ix2 m q) * weight (l.val % 2) W s z q ⟨l.val / 2, by omega⟩ l := by
  unfold block
  rw [interleave_apply]
  split
  · rename_i h
    rw [acc_all]
    refine Finset.sum_congr rfl fun q _ => congrArg (X (ix2 m q) * ·) ?_
    rw [oddW_apply W s z _ (by omega)]
    have e1 : 64 * (q.val / 64) + q.val % 64 = q.val := by omega
    have e2 : 2 * (l.val / 2) + 1 = l.val := by omega
    simp only [e1, e2, h]
  · rename_i h
    rw [acc_all]
    refine Finset.sum_congr rfl fun q _ => congrArg (X (ix2 m q) * ·) ?_
    rw [evenW_apply W s z _ (by omega)]
    have e1 : 64 * (q.val / 64) + q.val % 64 = q.val := by omega
    have e2 : 2 * (l.val / 2) = l.val := by omega
    have e3 : l.val % 2 = 0 := by omega
    simp only [e1, e2, e3]

end Cert.KernelIdeal.Block
-- ==== Proof.Entry.lean ====
/- The blocks a grid point is handed, read at an index of the arguments. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem

variable (m : (ℓ : Loc nD τ sig) → Buf (Elt Ideal) ℓ)

/-- The block of every window at grid point `t`. -/
theorem index_eq : ∀ t : Fin cfg0.N, win0_0.index t = ![0, 0] ∧ win0_1.index t = ![0, t.val] ∧ win0_2.index t = ![t.val, 0]
    ∧ win0_3.index t = ![t.val, 0] ∧ win0_4.index t = ![0, t.val] :=
  (by decide +kernel : ∀ t : Fin grid0.N, _)

/-- The rows of `x` without the middle axis. -/
theorem rows_apply (x : Vec Ideal S256x1x7168 .bf16) (r : Fin 256) (q : Fin 7168) :
    shapeCast S256x7168 x shapeCasts_S256x1x7168_S256x7168 (ix2 r q) = x (ix3 r 0 q) :=
  shapeCast_apply x shapeCasts_S256x1x7168_S256x7168 (ix2 r q) (ix3 r 0 q) (by
    rewrite [Shape.rowMajor_val_three, Shape.rowMajor_val_two]
    show (r.val * 1 + 0) * 7168 + q.val = r.val * 7168 + q.val
    omega)

/-- The rows of `x` when the grid is entered: the argument without its middle axis. -/
theorem V_main_v0 (c : Dev nD) (r : Fin 256) (q : Fin 7168) :
    V m c main_v0 (ix2 r q) = m ((c : Thread nD τ).loc main_arg0) (ix3 r 0 q) := by
  have h : V m c main_v0 = shapeCast S256x7168 (m ((c : Thread nD τ).loc main_arg0)) shapeCasts_S256x1x7168_S256x7168 := by
    show StableHlo.after hostOps0 _ (Proc.devRef .tc main_v0) = _
    after_results
    rfl
  rw [h]
  exact rows_apply _ r q

/-- The block of `x` is all of it. -/
theorem x_apply (c : Dev nD) (t : Fin cfg0.N) (r : Fin 256) (q : Fin 7168) :
    iblk m c 0 t (ix2 r q) = m ((c : Thread nD τ).loc main_arg0) (ix3 r 0 q) := by
  rw [← V_main_v0 m c]
  blk_ext! [iblk, index_eq t]

/-- The block of codes: 256 columns. -/
theorem codes_apply (c : Dev nD) (t : Fin cfg0.N) (q : Fin 7168) (n : Fin 256) :
    iblk m c 1 t (ix2 q n) = m ((c : Thread nD τ).loc main_arg1) (ix2 q ⟨256 * t.val + n.val, by have : t.val < 14 := t.isLt; omega⟩) := by
  rw [← V_main_arg1 m c]
  blk_ext! [iblk, index_eq t]

/-- The block of scales: 512 rows. -/
theorem scales_apply (c : Dev nD) (t : Fin cfg0.N) (l : Fin 512) (g : Fin 112) :
    iblk m c 2 t (ix2 l g) = m ((c : Thread nD τ).loc main_arg2) (ix2 ⟨512 * t.val + l.val, by have : t.val < 14 := t.isLt; omega⟩ g) := by
  rw [← V_main_arg2 m c]
  blk_ext! [iblk, index_eq t]

/-- The block of zeros: 512 rows. -/
theorem zeros_apply (c : Dev nD) (t : Fin cfg0.N) (l : Fin 512) (g : Fin 56) :
    iblk m c 3 t (ix2 l g) = m ((c : Thread nD τ).loc main_arg3) (ix2 ⟨512 * t.val + l.val, by have : t.val < 14 := t.isLt; omega⟩ g) := by
  rw [← V_main_arg3 m c]
  blk_ext! [iblk, index_eq t]

end Cert.KernelIdeal.Block
-- ==== Proof.Full.lean ====
/- The result as the problem states it: a row of `x` against the dequantized weights of an output column. -/
module

public import proofs.«01_k».proof.Proof.Nibble

@[expose] public section

noncomputable section

namespace Cert.Full

open Cert.KernelIdeal Cert.KernelIdeal.Gen Idealize.ShloMosaic Idealize.ShloMosaic.TcCoe Idealize.ShloMosaic.Tactic Cert.Nibble

/-- The weight at row `q` and output column `l`: the nibble of the code less the zero of the group, times the scale of the group. -/
def weight (W : IVec S7168x3584 8) (s : Vec Ideal S7168x112 .bf16) (z : IVec S7168x56 8) (q l : Fin 7168) : EReal :=
  (num (nib (l.val % 2) (W (ix2 q ⟨l.val / 2, by omega⟩))) - num (nib (q.val / 64 % 2) (z (ix2 l ⟨q.val / 64 / 2, by omega⟩))))
    * s (ix2 l ⟨q.val / 64, by omega⟩)

/-- An element of the result. -/
def result (x : Vec Ideal S256x1x7168 .bf16) (W : IVec S7168x3584 8) (s : Vec Ideal S7168x112 .bf16) (z : IVec S7168x56 8)
    (r : Fin 256) (l : Fin 7168) : EReal :=
  ∑ q : Fin 7168, x (ix3 r 0 q) * weight W s z q l

end Cert.Full
-- ==== Proof.Whole.lean ====
/- The array the kernel leaves, read at an index. -/
module

public import proofs.«01_k».proof.Proof.Product
public import proofs.«01_k».proof.Proof.Entry
public import proofs.«01_k».proof.Proof.Full

@[expose] public section

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Cert.Nibble

variable (m : (ℓ : Loc nD τ sig) → Buf (Elt Ideal) ℓ)

/-- The result the problem asks for, of the arguments in memory. -/
def want (c : Dev nD) : Vec Ideal S256x7168 .bf16 := fun j =>
  Full.result (m ((c : Thread nD τ).loc main_arg0)) (m ((c : Thread nD τ).loc main_arg1)) (m ((c : Thread nD τ).loc main_arg2))
    (m ((c : Thread nD τ).loc main_arg3)) (j 0) (j 1)

/-- What grid point `t` computes is its 512 columns of that. -/
theorem point_apply (c : Dev nD) (t : Fin cfg0.N) (r : Fin 256) (l : Fin 512) :
    outsAt0 m c t (ix2 r l) = want m c (ix2 r ⟨512 * t.val + l.val, by have : t.val < 14 := t.isLt; omega⟩) := by
  unfold outsAt0
  rw [out_eq]
  refine (block_apply _ _ _ _ r l).trans ?_
  show _ = Full.result _ _ _ _ r ⟨512 * t.val + l.val, by have : t.val < 14 := t.isLt; omega⟩
  unfold Full.result
  refine Finset.sum_congr rfl fun q _ => ?_
  unfold weight Full.weight
  rw [x_apply, codes_apply, scales_apply, zeros_apply]
  have e1 : (512 * t.val + l.val) % 2 = l.val % 2 := by omega
  have e2 : (512 * t.val + l.val) / 2 = 256 * t.val + l.val / 2 := by omega
  simp only [e1, e2]

/-- So the array ends holding it. -/
theorem final (c : Dev nD) : (dats m 0 c).arrAt 4 cfg0.N = want m c := by
  refine (dats m 0 c).arrAt_eq_of_covers 4 _ (by decide +kernel) fun t hf y => ?_
  blk_simp
  rw [after0_4]
  idx_vars y
  rw [point_apply]
  refine congrArg (want m c) ?_
  blk_ext [index_eq t]

end Cert.KernelIdeal.Block
-- ==== Proof.RefWeight.lean ====
/- The weights of the reference, read at an index. -/
module

public import proofs.«01_k».proof.Proof.Full
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Nibble

/-- The two ways of cutting a nibble out of a widened byte. -/
theorem cut_word (b : BitVec 8) :
    IntOp.andi (b.setWidth 32) 15#32 = (nib 0 b).setWidth 32
    ∧ IntOp.andi (IntOp.shrsi .host (b.setWidth 32) 4#32) 15#32 = (nib 1 b).setWidth 32 := by
  revert b
  decide

/-- A widened byte as a float is the number it stands for. -/
theorem sitofp_byte (b : BitVec 8) : (FloatOps.sitofp .bf16 (b.setWidth 32) : Ideal .bf16) = num b := by
  show (((b.setWidth 32).toInt : ℝ) : EReal) = ((b.toNat : ℝ) : EReal)
  have h : (b.setWidth 32).toInt = (b.toNat : ℤ) := by
    have := b.isLt
    rw [BitVec.toInt_setWidth, Int.bmod_def]
    split <;> omega
  rw [h]
  simp

/-- The low and the high nibbles of the codes. -/
theorem codes_apply (x1 : (⟨S7168x3584, .i8⟩ : BufTy).Contents (Elt Ideal)) (q : Fin 7168) (n : Fin 3584) :
    val_main_v21 (F := Ideal) x1 (ix2 q n) = num (nib 0 (x1 (ix2 q n)))
    ∧ val_main_v34 (F := Ideal) x1 (ix2 q n) = num (nib 1 (x1 (ix2 q n))) := by
  simp only [val_main_v21_apply, val_main_v34_apply, val_main_v2_apply, val_main_v6_apply, val_main_v4_apply, val_main_v0_apply,
    val_main_v1_apply, val_main_v3_apply, val_main_v5_apply, val_main_c_apply, val_main_c_0_apply, val_main_c_1_apply, cut_word, sitofp_byte,
    and_self]

/-- Two arrays of one entry a place, joined into one of two entries a place. -/
theorem pair_apply (a b : IVec S7168x56x1 32) (l : Fin 7168) (k : Fin 56) (h : Fin 2) :
    concatenate S7168x56x2 2 [⟨S7168x56x1, a⟩, ⟨S7168x56x1, b⟩] concatenates_S7168x56x1_S7168x56x1_S7168x56x2_d2 (ix3 l k h)
      = if h.val = 0 then a (ix3 l k 0) else b (ix3 l k 0) := by
  pointwise
  match h with
  | ⟨0, _⟩ => rfl
  | ⟨1, _⟩ => rfl

/-- The zeros, laid out one a group. -/
theorem zeros_apply (x3 : (⟨S7168x56, .i8⟩ : BufTy).Contents (Elt Ideal)) (l : Fin 7168) (g : Fin 112) :
    val_main_v18 (F := Ideal) x3 (ix2 l g) = num (nib (g.val % 2) (x3 (ix2 l ⟨g.val / 2, by omega⟩))) := by
  have e0 (k : Fin 56) : val_main_v14 (F := Ideal) x3 (ix3 l k 0) = (nib 0 (x3 (ix2 l k))).setWidth 32 := by
    rw [val_main_v14_apply, show idx_main_v14 (ix3 l k 0) = ix2 l k from (by funext a; match a with | ⟨0, _⟩ => rfl | ⟨1, _⟩ => rfl),
      val_main_v9_apply, val_main_v7_apply, val_main_v8_apply, val_main_c_2_apply, (cut_word _).1]
  have e1 (k : Fin 56) : val_main_v15 (F := Ideal) x3 (ix3 l k 0) = (nib 1 (x3 (ix2 l k))).setWidth 32 := by
    rw [val_main_v15_apply, show idx_main_v15 (ix3 l k 0) = ix2 l k from (by funext a; match a with | ⟨0, _⟩ => rfl | ⟨1, _⟩ => rfl),
      val_main_v13_apply, val_main_v11_apply, val_main_v7_apply, val_main_v10_apply, val_main_v12_apply,
      val_main_c_3_apply, val_main_c_4_apply, (cut_word _).2]
  have key (h : Fin 2) (k : Fin 56) : val_main_v16 (F := Ideal) x3 (ix3 l k h) = (nib h.val (x3 (ix2 l k))).setWidth 32 := by
    unfold val_main_v16
    rw [pair_apply]
    match h with
    | ⟨0, _⟩ => exact e0 k
    | ⟨1, _⟩ => exact e1 k
  rw [val_main_v18_apply, val_main_v17_apply]
  have e : idx_main_v17 (ix2 l g) = ix3 l ⟨g.val / 2, by omega⟩ ⟨g.val % 2, by omega⟩ := by
    funext a
    match a with
    | ⟨0, _⟩ => exact Fin.ext (by show (l.val * 112 + g.val) / 112 = l.val; omega)
    | ⟨1, _⟩ => exact Fin.ext (by show (l.val * 112 + g.val) / 2 % 56 = g.val / 2; omega)
    | ⟨2, _⟩ => exact Fin.ext (by show (l.val * 112 + g.val) % 2 = g.val % 2; omega)
  rw [e, key, sitofp_byte]

/-- The even and the odd rows of the zeros and of the scales. -/
theorem rows_apply (x2 : (⟨S7168x112, .bf16⟩ : BufTy).Contents (Elt Ideal)) (x3 : (⟨S7168x56, .i8⟩ : BufTy).Contents (Elt Ideal)) (n : Fin 3584) (g : Fin 112) :
    val_main_v19 (F := Ideal) x3 (ix2 n g) = val_main_v18 (F := Ideal) x3 (ix2 ⟨2 * n.val, by omega⟩ g)
    ∧ val_main_v32 (F := Ideal) x3 (ix2 n g) = val_main_v18 (F := Ideal) x3 (ix2 ⟨2 * n.val + 1, by omega⟩ g)
    ∧ val_main_v20 (F := Ideal) x2 (ix2 n g) = x2 (ix2 ⟨2 * n.val, by omega⟩ g)
    ∧ val_main_v33 (F := Ideal) x2 (ix2 n g) = x2 (ix2 ⟨2 * n.val + 1, by omega⟩ g) := by
  unfold val_main_v19 val_main_v32 val_main_v20 val_main_v33
  generalize val_main_v18 (F := Ideal) x3 = y
  refine ⟨?_, ?_, ?_, ?_⟩ <;> pointwise
  all_goals simp only [Nat.add_comm]

/-- The weights of an even and of an odd output column. -/
theorem weights_apply (x1 : (⟨S7168x3584, .i8⟩ : BufTy).Contents (Elt Ideal)) (x2 : (⟨S7168x112, .bf16⟩ : BufTy).Contents (Elt Ideal))
    (x3 : (⟨S7168x56, .i8⟩ : BufTy).Contents (Elt Ideal)) (q : Fin 7168) (n : Fin 3584) :
    val_main_v31 (F := Ideal) x1 x2 x3 (ix2 q n) = Full.weight x1 x2 x3 q ⟨2 * n.val, by omega⟩
    ∧ val_main_v44 (F := Ideal) x1 x2 x3 (ix2 q n) = Full.weight x1 x2 x3 q ⟨2 * n.val + 1, by omega⟩ := by
  have hq : q.val < 7168 := q.isLt
  have i1 : idx_main_v31 (ix2 q n) = ix3 ⟨q.val / 64, by omega⟩ ⟨q.val % 64, by omega⟩ n := by
    funext a
    match a with
    | ⟨0, _⟩ => exact Fin.ext (by show (q.val * 3584 + n.val) / 229376 = q.val / 64; omega)
    | ⟨1, _⟩ => exact Fin.ext (by show (q.val * 3584 + n.val) / 3584 % 64 = q.val % 64; omega)
    | ⟨2, _⟩ => exact Fin.ext (by show (q.val * 3584 + n.val) % 3584 = n.val; omega)
  have i2 : idx_main_v22 (ix3 ⟨q.val / 64, by omega⟩ ⟨q.val % 64, by omega⟩ n) = ix2 q n := by
    funext a
    match a with
    | ⟨0, _⟩ => exact Fin.ext (by show ((q.val / 64 * 64 + q.val % 64) * 3584 + n.val) / 3584 = q.val; omega)
    | ⟨1, _⟩ => exact Fin.ext (by show ((q.val / 64 * 64 + q.val % 64) * 3584 + n.val) % 3584 = n.val; omega)
  have i3 (g : Fin 112) (r : Fin 64) : idx_main_v23 (idx_main_v24 (idx_main_v27 (ix3 g r n))) = ix2 n g := by
    funext a
    match a with
    | ⟨0, _⟩ => rfl
    | ⟨1, _⟩ => rfl
  have j1 : idx_main_v44 (ix2 q n) = ix3 ⟨q.val / 64, by omega⟩ ⟨q.val % 64, by omega⟩ n := i1
  have j2 : idx_main_v35 (ix3 ⟨q.val / 64, by omega⟩ ⟨q.val % 64, by omega⟩ n) = ix2 q n := i2
  have j3 (g : Fin 112) (r : Fin 64) : idx_main_v36 (idx_main_v37 (idx_main_v40 (ix3 g r n))) = ix2 n g := i3 g r
  have j4 (g : Fin 112) (r : Fin 64) : idx_main_v25 (idx_main_v26 (idx_main_v29 (ix3 g r n))) = ix2 n g := i3 g r
  have j5 (g : Fin 112) (r : Fin 64) : idx_main_v38 (idx_main_v39 (idx_main_v42 (ix3 g r n))) = ix2 n g := i3 g r
  obtain ⟨r1, r2, r3, r4⟩ := rows_apply x2 x3 n ⟨q.val / 64, by omega⟩
  constructor
  · rw [val_main_v31_apply, i1, val_main_v30_apply, val_main_v28_apply, val_main_v22_apply, i2, (codes_apply x1 q n).1,
      val_main_v27_apply, val_main_v24_apply, val_main_v23_apply, i3, r1, zeros_apply,
      val_main_v29_apply, val_main_v26_apply, val_main_v25_apply, j4, r3]
    unfold Full.weight
    have e1 : 2 * n.val % 2 = 0 := by omega
    have e2 : 2 * n.val / 2 = n.val := by omega
    simp only [e1, e2]
    rfl
  · rw [val_main_v44_apply, j1, val_main_v43_apply, val_main_v41_apply, val_main_v35_apply, j2, (codes_apply x1 q n).2,
      val_main_v40_apply, val_main_v37_apply, val_main_v36_apply, j3, r2, zeros_apply,
      val_main_v42_apply, val_main_v39_apply, val_main_v38_apply, j5, r4]
    unfold Full.weight
    have e1 : (2 * n.val + 1) % 2 = 1 := by omega
    have e2 : (2 * n.val + 1) / 2 = n.val := by omega
    simp only [e1, e2]
    rfl

end Cert.ReferenceIdeal.Read
-- ==== Proof.RefAt.lean ====
/- The result of the reference, read at an index. -/
module

public import proofs.«01_k».proof.Proof.RefWeight

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Nibble

/-- The products with the even and with the odd columns. -/
theorem products_apply (x0 : (⟨S256x1x7168, .bf16⟩ : BufTy).Contents (Elt Ideal)) (x1 : (⟨S7168x3584, .i8⟩ : BufTy).Contents (Elt Ideal))
    (x2 : (⟨S7168x112, .bf16⟩ : BufTy).Contents (Elt Ideal)) (x3 : (⟨S7168x56, .i8⟩ : BufTy).Contents (Elt Ideal)) (r : Fin 256) (n : Fin 3584) :
    val_main_v45 (F := Ideal) x0 x1 x2 x3 (ix3 r 0 n) = Full.result x0 x1 x2 x3 r ⟨2 * n.val, by omega⟩
    ∧ val_main_v46 (F := Ideal) x0 x1 x2 x3 (ix3 r 0 n) = Full.result x0 x1 x2 x3 r ⟨2 * n.val + 1, by omega⟩ := by
  have i1 (k : Fin 7168) : lidx_main_v45 (ix3 r 0 n) k = ix3 r 0 k := by
    funext a
    match a with
    | ⟨0, _⟩ => rfl
    | ⟨1, _⟩ => rfl
    | ⟨2, _⟩ => rfl
  have i2 (k : Fin 7168) : ridx_main_v45 (ix3 r 0 n) k = ix2 k n := by
    funext a
    match a with
    | ⟨0, _⟩ => rfl
    | ⟨1, _⟩ => rfl
  have j1 (k : Fin 7168) : lidx_main_v46 (ix3 r 0 n) k = ix3 r 0 k := i1 k
  have j2 (k : Fin 7168) : ridx_main_v46 (ix3 r 0 n) k = ix2 k n := i2 k
  rw [val_main_v45_apply, val_main_v46_apply]
  refine ⟨Finset.sum_congr rfl fun k _ => ?_, Finset.sum_congr rfl fun k _ => ?_⟩
  · rw [i1, i2, (weights_apply x1 x2 x3 k n).1]
  · rw [j1, j2, (weights_apply x1 x2 x3 k n).2]

/-- Two arrays of one entry a place, joined into one of two entries a place. -/
theorem columns_apply (a b : FVec Ideal S256x1x3584x1 .f32) (r : Fin 256) (n : Fin 3584) (h : Fin 2) :
    concatenate S256x1x3584x2 3 [⟨S256x1x3584x1, a⟩, ⟨S256x1x3584x1, b⟩] concatenates_S256x1x3584x1_S256x1x3584x1_S256x1x3584x2_d3 (ix4 r 0 n h)
      = if h.val = 0 then a (ix4 r 0 n 0) else b (ix4 r 0 n 0) := by
  pointwise
  match h with
  | ⟨0, _⟩ => rfl
  | ⟨1, _⟩ => rfl

/-- An element of the result: the row of `x` against the weights of the column. -/
theorem result_apply (x0 : (⟨S256x1x7168, .bf16⟩ : BufTy).Contents (Elt Ideal)) (x1 : (⟨S7168x3584, .i8⟩ : BufTy).Contents (Elt Ideal))
    (x2 : (⟨S7168x112, .bf16⟩ : BufTy).Contents (Elt Ideal)) (x3 : (⟨S7168x56, .i8⟩ : BufTy).Contents (Elt Ideal)) (r : Fin 256) (l : Fin 7168) :
    val_main_v52 (F := Ideal) x0 x1 x2 x3 (ix2 r l) = Full.result x0 x1 x2 x3 r l := by
  have i1 : idx_main_v50 (idx_main_v52 (ix2 r l)) = ix4 r 0 ⟨l.val / 2, by omega⟩ ⟨l.val % 2, by omega⟩ := by
    funext a
    match a with
    | ⟨0, _⟩ => exact Fin.ext (by show (((r.val * 7168 + l.val) / 7168 * 1 + 0) * 7168 + (r.val * 7168 + l.val) % 7168) / 7168 = r.val; omega)
    | ⟨1, _⟩ => rfl
    | ⟨2, _⟩ => exact Fin.ext (by show (((r.val * 7168 + l.val) / 7168 * 1 + 0) * 7168 + (r.val * 7168 + l.val) % 7168) / 2 % 3584 = l.val / 2; omega)
    | ⟨3, _⟩ => exact Fin.ext (by show (((r.val * 7168 + l.val) / 7168 * 1 + 0) * 7168 + (r.val * 7168 + l.val) % 7168) % 2 = l.val % 2; omega)
  have i2 (n : Fin 3584) : idx_main_v47 (ix4 r 0 n 0) = ix3 r 0 n := by
    funext a
    match a with
    | ⟨0, _⟩ => rfl
    | ⟨1, _⟩ => rfl
    | ⟨2, _⟩ => rfl
  have j2 (n : Fin 3584) : idx_main_v48 (ix4 r 0 n 0) = ix3 r 0 n := i2 n
  rw [val_main_v52_apply, val_main_v51_apply]
  show val_main_v50 (F := Ideal) x0 x1 x2 x3 (idx_main_v52 (ix2 r l)) = _
  rw [val_main_v50_apply, i1]
  unfold val_main_v49
  rw [columns_apply, val_main_v47_apply, i2, val_main_v48_apply, j2, (products_apply x0 x1 x2 x3 r _).1, (products_apply x0 x1 x2 x3 r _).2]
  have hl : l.val % 2 = 0 ∨ l.val % 2 = 1 := by omega
  rcases hl with h | h
  · rw [if_pos h]
    exact congrArg _ (Fin.ext (by show 2 * (l.val / 2) = l.val; omega))
  · rw [if_neg (by show ¬ l.val % 2 = 0; omega)]
    exact congrArg _ (Fin.ext (by show 2 * (l.val / 2) + 1 = l.val; omega))

end Cert.ReferenceIdeal.Read
-- ==== Proof.Algebraic.lean ====
/- The kernel and the reference compute the same array over extended reals. -/
module

public import proofs.«01_k».proof.Defs
public import proofs.«01_k».proof.Proof.Whole
public import proofs.«01_k».proof.Proof.RefAt

@[expose] public section

set_option maxRecDepth 16384

namespace Cert.Proof

open Idealize.ShloMosaic Idealize.ShloMosaic.TcCoe Idealize.ShloMosaic.Tactic Idealize.SL.Sem

/-- The reference's result is the array the problem asks for. -/
theorem reference_eq (x0 : Vec Ideal Cert.ReferenceIdeal.S256x1x7168 .bf16) (x1 : IVec Cert.ReferenceIdeal.S7168x3584 8)
    (x2 : Vec Ideal Cert.ReferenceIdeal.S7168x112 .bf16) (x3 : IVec Cert.ReferenceIdeal.S7168x56 8) :
    Cert.ReferenceIdeal.Read.val_main_v52 (F := Ideal) x0 x1 x2 x3 = fun j => Cert.Full.result x0 x1 x2 x3 (j 0) (j 1) := by
  funext j
  idx_vars j
  exact Cert.ReferenceIdeal.Read.result_apply x0 x1 x2 x3 _ _

/-- From memories that agree on the arguments, both programs end with the array the problem asks for as their result, and their arguments as they were. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Block.want m c, ?_, ?_⟩
  · exact (θ_run Cert.KernelIdeal.defs _ _).mono
      (fun r h c => ⟨(h c).1.trans (Cert.KernelIdeal.Block.final m c), (h c).2⟩) (Cert.KernelIdeal.Value.run_blocks (F := Ideal) m g)
  · refine (θ_run Cert.ReferenceIdeal.defs _ _).mono (fun r h c => ⟨?_, (h c).2⟩) (Cert.ReferenceIdeal.Value.run (F := Ideal) m' g')
    obtain ⟨h0, h1, h2, h3⟩ := hm c
    refine ((h c).1.trans (Cert.ReferenceIdeal.Read.val_main_v52_eq _ _ _ _)).trans ((reference_eq _ _ _ _).trans ?_)
    rw [h0, h1, h2, h3]
    rfl

end Cert.Proof
-- ==== Proof.lean ====
/- The certificate's claims, assembled from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, frame_kernel, frame_kernelIdeal,
    frame_referenceIdeal, preserves, algebraic⟩

end Cert.Proof

end
